-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S100000x128 : Shape := ⟨2, ![100000, 128]⟩
abbrev S100000 : Shape := ⟨1, ![100000]⟩
abbrev S128x1 : Shape := ⟨2, ![128, 1]⟩
abbrev S1 : Shape := ⟨1, ![1]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S100000x128 .f32) (main_arg1 : IVec S100000 32) (main_arg2 : FVec F S128x1 .f32) (main_arg3 : FVec F S1 .f32) (main_arg4 : FVec F S128x128 .f32) (main_arg5 : FVec F S128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x1 .f32 := Host.absf main_arg2
  let main_cst_0 : FVec F S_ .f32 := constant S_ .f32 0x7F800000#32
  let main_v5 : FVec F S128x1 .f32 := broadcastInDim S128x1 ![] bcast_S_S128x1 main_cst_0
  let main_v6 : IVec S128x1 1 := cmpf .olt main_v4 main_v5
  let main_c_1 : IVec S_ 1 := constantI S_ 1 1#1
  let main_v7 : IVec S_ 1 := (fun x v => Host.reduce IntOp.andi x v reducesTo_S128x1_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S100000x128 : Shape := ⟨2, ![100000, 128]⟩
abbrev S100000 : Shape := ⟨1, ![100000]⟩
abbrev S128x1 : Shape := ⟨2, ![128, 1]⟩
abbrev S1 : Shape := ⟨1, ![1]⟩
abbrev S128x128 : Shape := ⟨2, ![128, 128]⟩
abbrev S128 : Shape := ⟨1, ![128]⟩
abbrev S5x1x20000 : Shape := ⟨3, ![5, 1, 20000]⟩
abbrev S128x129 : Shape := ⟨2, ![128, 129]⟩
abbrev S1x128 : Shape := ⟨2, ![1, 128]⟩
abbrev S256x128 : Shape := ⟨2, ![256, 128]⟩
abbrev S20000x128 : Shape := ⟨2, ![20000, 128]⟩
abbrev S1x1x20000 : Shape := ⟨3, ![1, 1, 20000]⟩
abbrev S256x129 : Shape := ⟨2, ![256, 129]⟩
abbrev S1x20000 : Shape := ⟨2, ![1, 20000]⟩
abbrev S20000x129 : Shape := ⟨2, ![20000, 129]⟩
abbrev S20000x1 : Shape := ⟨2, ![20000, 1]⟩
abbrev S256x1 : Shape := ⟨2, ![256, 1]⟩
abbrev S256x20000 : Shape := ⟨2, ![256, 20000]⟩

abbrev nBuf : Space → Nat
  | .hbm => 13
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x1, .f32⟩
  | .hbm, ⟨3, _⟩ => ⟨S1, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S5x1x20000, .i32⟩
  | .hbm, ⟨9, _⟩ => ⟨S128x129, .f32⟩
  | .hbm, ⟨10, _⟩ => ⟨S1x128, .f32⟩
  | .hbm, ⟨11, _⟩ => ⟨S1x128, .f32⟩
  | .hbm, ⟨12, _⟩ => ⟨S256x128, .f32⟩
  | .local _ .vmem, ⟨0, _⟩ => ⟨S20000x128, .f32⟩
  | .local _ .vmem, ⟨1, _⟩ => ⟨S20000x128, .f32⟩
  | .local _ .vmem, ⟨2, _⟩ => ⟨S1x1x20000, .i32⟩
  | .local _ .vmem, ⟨3, _⟩ => ⟨S1x1x20000, .i32⟩
  | .local _ .vmem, ⟨4, _⟩ => ⟨S128x129, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S256x128, .f32⟩
  | .local _ .vmem, ⟨9, _⟩ => ⟨S256x129, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![5], ![false]⟩

def k0_cond2 (i : grid0.Coords) : BitVec 1 :=
  let arg0 : BitVec 32 := BitVec.ofNat 32 (i 0).val
  let c4_i32 : BitVec 32 := 4#32
  let v39 : BitVec 1 := Scalar.cmpi .eq arg0 c4_i32
  let v40 : BitVec 32 := Scalar.extui v39
  let c0_i32_17 : BitVec 32 := 0#32
  let v41 : BitVec 1 := Scalar.cmpi .ne v40 c0_i32_17
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x20000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x129 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S100000x128 : Shape := ⟨2, ![100000, 128]⟩
abbrev S100000 : Shape := ⟨1, ![100000]⟩
abbrev S128x1 : Shape := ⟨2, ![128, 1]⟩
abbrev S1 : Shape := ⟨1, ![1]⟩
abbrev S128x128 : Shape := ⟨2, ![128, 128]⟩
abbrev S128 : Shape := ⟨1, ![128]⟩
abbrev S100000x1 : Shape := ⟨2, ![100000, 1]⟩
abbrev S1x1 : Shape := ⟨2, ![1, 1]⟩
abbrev S1x128 : Shape := ⟨2, ![1, 128]⟩
abbrev S_ : Shape := ⟨0, ![]⟩
abbrev S256 : Shape := ⟨1, ![256]⟩
abbrev S1x256 : Shape := ⟨2, ![1, 256]⟩
abbrev S100000x256 : Shape := ⟨2, ![100000, 256]⟩
abbrev S256x1 : Shape := ⟨2, ![256, 1]⟩
abbrev S256x128 : Shape := ⟨2, ![256, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x1, .f32⟩
  | .hbm, ⟨3, _⟩ => ⟨S1, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S100000x1, .f32⟩
  | .hbm, ⟨9, _⟩ => ⟨S1x1, .f32⟩
  | .hbm, ⟨10, _⟩ => ⟨S100000x1, .f32⟩
  | .hbm, ⟨11, _⟩ => ⟨S100000x1, .f32⟩
  | .hbm, ⟨12, _⟩ => ⟨S100000x128, .f32⟩
  | .hbm, ⟨13, _⟩ => ⟨S1x128, .f32⟩
  | .hbm, ⟨14, _⟩ => ⟨S100000x128, .f32⟩
  | .hbm, ⟨15, _⟩ => ⟨S100000x128, .f32⟩
  | .hbm, ⟨16, _⟩ => ⟨S_, .f32⟩
  | .hbm, ⟨17, _⟩ => ⟨S_, .f32⟩
  | .hbm, ⟨18, _⟩ => ⟨S100000x128, .f32⟩
  | .hbm, ⟨19, _⟩ => ⟨S100000x128, .i1⟩
  | .hbm, ⟨20, _⟩ => ⟨S_, .f32⟩
  | .hbm, ⟨21, _⟩ => ⟨S100000x128, .f32⟩
  | .hbm, ⟨22, _⟩ => ⟨S100000x128, .f32⟩
  | .hbm, ⟨23, _⟩ => ⟨S100000x128, .f32⟩
  | .hbm, ⟨24, _⟩ => ⟨S100000x1, .i32⟩
  | .hbm, ⟨25, _⟩ => ⟨S256, .i32⟩
  | .hbm, ⟨26, _⟩ => ⟨S1x256, .i32⟩
  | .hbm, ⟨27, _⟩ => ⟨S100000x256, .i32⟩
  | .hbm, ⟨28, _⟩ => ⟨S100000x256, .i32⟩
  | .hbm, ⟨29, _⟩ => ⟨S100000x256, .i1⟩
  | .hbm, ⟨30, _⟩ => ⟨S_, .f32⟩
  | .hbm, ⟨31, _⟩ => ⟨S_, .f32⟩
  | .hbm, ⟨32, _⟩ => ⟨S100000x256, .f32⟩
  | .hbm, ⟨33, _⟩ => ⟨S100000x256, .f32⟩
  | .hbm, ⟨34, _⟩ => ⟨S100000x256, .f32⟩
  | .hbm, ⟨35, _⟩ => ⟨S_, .f32⟩
  | .hbm, ⟨36, _⟩ => ⟨S256, .f32⟩
  | .hbm, ⟨37, _⟩ => ⟨S256x1, .f32⟩
  | .hbm, ⟨38, _⟩ => ⟨S_, .i32⟩
  | .hbm, ⟨39, _⟩ => ⟨S100000, .i32⟩
  | .hbm, ⟨40, _⟩ => ⟨S100000, .i1⟩
  | .hbm, ⟨41, _⟩ => ⟨S_, .i32⟩
  | .hbm, ⟨42, _⟩ => ⟨S100000, .i32⟩
  | .hbm, ⟨43, _⟩ => ⟨S100000, .i32⟩
  | .hbm, ⟨44, _⟩ => ⟨S100000, .i32⟩
  | .hbm, ⟨45, _⟩ => ⟨S100000x1, .i32⟩
  | .hbm, ⟨46, _⟩ => ⟨S100000x1, .f32⟩
  | .hbm, ⟨47, _⟩ => ⟨S100000x1, .f32⟩
  | .hbm, ⟨48, _⟩ => ⟨S100000x1, .f32⟩
  | .hbm, ⟨49, _⟩ => ⟨S_, .f32⟩
  | .hbm, ⟨50, _⟩ => ⟨S256x1, .f32⟩
  | .hbm, ⟨51, _⟩ => ⟨S100000x1, .i32⟩
  | .hbm, ⟨52, _⟩ => ⟨S256x1, .f32⟩
  | .hbm, ⟨53, _⟩ => ⟨S_, .i32⟩
  | .hbm, ⟨54, _⟩ => ⟨S100000, .i32⟩
  | .hbm, ⟨55, _⟩ => ⟨S100000, .i1⟩
  | .hbm, ⟨56, _⟩ => ⟨S_, .i32⟩
  | .hbm, ⟨57, _⟩ => ⟨S100000, .i32⟩
  | .hbm, ⟨58, _⟩ => ⟨S100000, .i32⟩
  | .hbm, ⟨59, _⟩ => ⟨S100000, .i32⟩
  | .hbm, ⟨60, _⟩ => ⟨S100000x1, .i32⟩
  | .hbm, ⟨61, _⟩ => ⟨S100000x1, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S256x128, .f32⟩
  | .hbm, ⟨67, _⟩ => ⟨S100000x1, .i32⟩
  | .hbm, ⟨68, _⟩ => ⟨S256x128, .f32⟩
  | .hbm, ⟨69, _⟩ => ⟨S256x128, .f32⟩
  | .hbm, ⟨70, _⟩ => ⟨S1x128, .f32⟩
  | .hbm, ⟨71, _⟩ => ⟨S256x128, .f32⟩
  | .hbm, ⟨72, _⟩ => ⟨S256x128, .f32⟩
  | .hbm, ⟨73, _⟩ => ⟨S_, .f32⟩
  | .hbm, ⟨74, _⟩ => ⟨S_, .f32⟩
  | .hbm, ⟨75, _⟩ => ⟨S256x128, .f32⟩
  | .hbm, ⟨76, _⟩ => ⟨S256x128, .i1⟩
  | .hbm, ⟨77, _⟩ => ⟨S_, .f32⟩
  | .hbm, ⟨78, _⟩ => ⟨S256x128, .f32⟩
  | .hbm, ⟨79, _⟩ => ⟨S256x128, .f32⟩
  | .hbm, ⟨80, _⟩ => ⟨S256x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_4 : Ref sig .tc := ⟨.hbm, 53, rfl⟩
abbrev main_v30 : Ref sig .tc := ⟨.hbm, 54, rfl⟩
abbrev main_v31 : Ref sig .tc := ⟨.hbm, 55, rfl⟩
abbrev main_c_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_6 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_7 : Ref sig .tc := ⟨.hbm, 73, rfl⟩
abbrev main_call2_cst : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_v47 : Ref sig .tc := ⟨.hbm, 80, rfl⟩

abbrev nD : Nat := 1
abbrev τ : Topo := Topo.v7x

variable {F : FTy → Type} [FloatOps F]
-- ==== Proof.Cases.lean ====
/-
  What the kernel body leaves in the carried scratch and in the output block, case by case, as the body's own
  arithmetic of the blocks it read.
-/
module

public import proofs.«01_k».proof.Proof.Gen.KernelIdeal.Value

set_option maxRecDepth 16384

@[expose] public section

noncomputable section

namespace Cert.KernelIdeal.Cases

open Idealize.ShloMosaic Idealize.ShloMosaic.TcCoe Idealize.ShloMosaic.Tactic
open Idealize.SL.Sem
open Cert.KernelIdeal.Gen

variable {F : FTy → Type} [FloatOps F]

/-- The two-axis zero offsets, as a constant function. -/
theorem hz2 : (![0, 0] : Fin 2 → Nat) = fun _ => 0 := funext fun a => by fin_cases a <;> rfl
/-- The three-axis zero offsets, as a constant function. -/
theorem hz3 : (![0, 0, 0] : Fin 3 → Nat) = fun _ => 0 := funext fun a => by fin_cases a <;> rfl

/-- First point: the scratch ends at the block's sums added to zeros. -/
theorem sout_A (c : Dev nD) (i : grid0.Coords) (a1 : Memref sig .tc .vmem S20000x128 .f32) (h1 : a1.IsWhole) (a2 : Memref sig .tc .vmem S1x1x20000 .i32) (h2 : a2.IsWhole)
    (a3 : Memref sig .tc .vmem S128x129 .f32) (h3 : a3.IsWhole) (a4 : Memref sig .tc .vmem S1x128 .f32) (h4 : a4.IsWhole) (a5 : Memref sig .tc .vmem S128x128 .f32) (h5 : a5.IsWhole)
    (a6 : Memref sig .tc .vmem S1x128 .f32) (h6 : a6.IsWhole) (a7 : Memref sig .tc .vmem S256x128 .f32) (h7 : a7.IsWhole) (a8 : Memref sig .tc .vmem S256x129 .f32) (h8 : a8.IsWhole) (hc0 : cond0_0 i) (hc1 : ¬cond0_1 i)
    (x0 : Vec F S20000x128 .f32) (x1 : Vec F S1x1x20000 .i32) (x2 : Vec F S128x129 .f32) (x3 : Vec F S1x128 .f32) (x4 : Vec F S128x128 .f32) (x5 : Vec F S1x128 .f32) :
    sout0_A_0 c i a1 h1 a2 h2 a3 h3 a4 h4 a5 h5 a6 h6 a7 h7 a8 h8 hc0 hc1 x0 x1 x2 x3 x4 x5 = k0_pay1 (k0_pay4 x0 x1 x2 x3 k0_pay3) := by
  unfold sout0_A_0
  rw [View.read_writes_eq_canon _ _ _ (scover0_A_0 c i a1 h1 a2 h2 a3 h3 a4 h4 a5 h5 a6 h6 a7 h7 a8 h8 hc0 hc1 x0 x1 x2 x3 x4 x5)]
  unfold kernelRun0_A
  dsimp only
  sl_unfold_words
  rw [View.canon_cons_unit_zero (S := S256x129) hz2, View.readCov_unit_zero (S := S256x129) _ hz2]
  simp only [View.readAt_eq_ld, h1.read_unread, h2.read_unread, h3.read_unread, h4.read_unread, h5.read_unread, h6.read_unread, h8.read_unread,
    View.ld_unit_zero (S := S20000x128) hz2, View.ld_unit_zero (S := S1x1x20000) hz3, View.ld_unit_zero (S := S128x129) hz2,
    View.ld_unit_zero (S := S1x128) hz2, View.ld_unit_zero (S := S128x128) hz2, View.ld_unit_zero (S := S256x129) hz2]

/-- A middle point: the scratch ends at the block's sums added to what it held. -/
theorem sout_B (c : Dev nD) (i : grid0.Coords) (a1 : Memref sig .tc .vmem S20000x128 .f32) (h1 : a1.IsWhole) (a2 : Memref sig .tc .vmem S1x1x20000 .i32) (h2 : a2.IsWhole)
    (a3 : Memref sig .tc .vmem S128x129 .f32) (h3 : a3.IsWhole) (a4 : Memref sig .tc .vmem S1x128 .f32) (h4 : a4.IsWhole) (a5 : Memref sig .tc .vmem S128x128 .f32) (h5 : a5.IsWhole)
    (a6 : Memref sig .tc .vmem S1x128 .f32) (h6 : a6.IsWhole) (a7 : Memref sig .tc .vmem S256x128 .f32) (h7 : a7.IsWhole) (a8 : Memref sig .tc .vmem S256x129 .f32) (h8 : a8.IsWhole) (hc0 : ¬cond0_0 i) (hc1 : ¬cond0_1 i)
    (x0 : Vec F S20000x128 .f32) (x1 : Vec F S1x1x20000 .i32) (x2 : Vec F S128x129 .f32) (x3 : Vec F S1x128 .f32) (x4 : Vec F S128x128 .f32) (x5 : Vec F S1x128 .f32) (xs : Vec F S256x129 .f32) :
    sout0_B_0 c i a1 h1 a2 h2 a3 h3 a4 h4 a5 h5 a6 h6 a7 h7 a8 h8 hc0 hc1 x0 x1 x2 x3 x4 x5 xs = k0_pay1 (k0_pay4 x0 x1 x2 x3 xs) := by
  unfold sout0_B_0
  rw [View.read_writes_eq_canon _ _ _ (scover0_B_0 c i a1 h1 a2 h2 a3 h3 a4 h4 a5 h5 a6 h6 a7 h7 a8 h8 hc0 hc1 x0 x1 x2 x3 x4 x5 xs)]
  unfold kernelRun0_B
  dsimp only
  sl_unfold_words
  rw [View.canon_cons_unit_zero (S := S256x129) hz2]
  simp only [View.readAt_eq_ld, h1.read_unread, h2.read_unread, h3.read_unread, h4.read_unread, h5.read_unread, h6.read_unread, h8.read_unread,
    View.ld_unit_zero (S := S20000x128) hz2, View.ld_unit_zero (S := S1x1x20000) hz3, View.ld_unit_zero (S := S128x129) hz2,
    View.ld_unit_zero (S := S1x128) hz2, View.ld_unit_zero (S := S128x128) hz2, View.ld_unit_zero (S := S256x129) hz2]

/-- The last point: the scratch ends at the block's sums added to what it held. -/
theorem sout_C (c : Dev nD) (i : grid0.Coords) (a1 : Memref sig .tc .vmem S20000x128 .f32) (h1 : a1.IsWhole) (a2 : Memref sig .tc .vmem S1x1x20000 .i32) (h2 : a2.IsWhole)
    (a3 : Memref sig .tc .vmem S128x129 .f32) (h3 : a3.IsWhole) (a4 : Memref sig .tc .vmem S1x128 .f32) (h4 : a4.IsWhole) (a5 : Memref sig .tc .vmem S128x128 .f32) (h5 : a5.IsWhole)
    (a6 : Memref sig .tc .vmem S1x128 .f32) (h6 : a6.IsWhole) (a7 : Memref sig .tc .vmem S256x128 .f32) (h7 : a7.IsWhole) (a8 : Memref sig .tc .vmem S256x129 .f32) (h8 : a8.IsWhole) (hc0 : ¬cond0_0 i) (hc1 : cond0_1 i)
    (x0 : Vec F S20000x128 .f32) (x1 : Vec F S1x1x20000 .i32) (x2 : Vec F S128x129 .f32) (x3 : Vec F S1x128 .f32) (x4 : Vec F S128x128 .f32) (x5 : Vec F S1x128 .f32) (xs : Vec F S256x129 .f32) :
    sout0_C_0 c i a1 h1 a2 h2 a3 h3 a4 h4 a5 h5 a6 h6 a7 h7 a8 h8 hc0 hc1 x0 x1 x2 x3 x4 x5 xs = k0_pay1 (k0_pay4 x0 x1 x2 x3 xs) := by
  unfold sout0_C_0
  rw [View.read_writes_eq_canon _ _ _ (scover0_C_0 c i a1 h1 a2 h2 a3 h3 a4 h4 a5 h5 a6 h6 a7 h7 a8 h8 hc0 hc1 x0 x1 x2 x3 x4 x5 xs)]
  unfold kernelRun0_C
  dsimp only
  sl_unfold_words
  rw [View.canon_cons_unit_zero (S := S256x129) hz2]
  simp only [View.readAt_eq_ld, h1.read_unread, h2.read_unread, h3.read_unread, h4.read_unread, h5.read_unread, h6.read_unread, h8.read_unread,
    View.ld_unit_zero (S := S20000x128) hz2, View.ld_unit_zero (S := S1x1x20000) hz3, View.ld_unit_zero (S := S128x129) hz2,
    View.ld_unit_zero (S := S1x128) hz2, View.ld_unit_zero (S := S128x128) hz2, View.ld_unit_zero (S := S256x129) hz2]

/-- The last point: the output block is the closing arithmetic of the scratch's final contents. -/
theorem out_C (c : Dev nD) (i : grid0.Coords) (a1 : Memref sig .tc .vmem S20000x128 .f32) (h1 : a1.IsWhole) (a2 : Memref sig .tc .vmem S1x1x20000 .i32) (h2 : a2.IsWhole)
    (a3 : Memref sig .tc .vmem S128x129 .f32) (h3 : a3.IsWhole) (a4 : Memref sig .tc .vmem S1x128 .f32) (h4 : a4.IsWhole) (a5 : Memref sig .tc .vmem S128x128 .f32) (h5 : a5.IsWhole)
    (a6 : Memref sig .tc .vmem S1x128 .f32) (h6 : a6.IsWhole) (a7 : Memref sig .tc .vmem S256x128 .f32) (h7 : a7.IsWhole) (a8 : Memref sig .tc .vmem S256x129 .f32) (h8 : a8.IsWhole) (hc0 : ¬cond0_0 i) (hc1 : cond0_1 i)
    (x0 : Vec F S20000x128 .f32) (x1 : Vec F S1x1x20000 .i32) (x2 : Vec F S128x129 .f32) (x3 : Vec F S1x128 .f32) (x4 : Vec F S128x128 .f32) (x5 : Vec F S1x128 .f32) (xs : Vec F S256x129 .f32) :
    out0_C_6 c i a1 h1 a2 h2 a3 h3 a4 h4 a5 h5 a6 h6 a7 h7 a8 h8 hc0 hc1 x0 x1 x2 x3 x4 x5 xs = k0_pay2 (k0_pay1 (k0_pay4 x0 x1 x2 x3 xs)) x4 x5 := by
  unfold out0_C_6
  rw [View.read_writes_eq_canon _ _ _ (cover0_C_6 c i a1 h1 a2 h2 a3 h3 a4 h4 a5 h5 a6 h6 a7 h7 a8 h8 hc0 hc1 x0 x1 x2 x3 x4 x5 xs)]
  unfold kernelRun0_C
  dsimp only
  sl_unfold_words
  rw [View.canon_cons_unit_zero (S := S256x128) hz2, View.readCov_unit_zero (S := S256x129) _ hz2]
  simp only [View.readAt_eq_ld, h1.read_unread, h2.read_unread, h3.read_unread, h4.read_unread, h5.read_unread, h6.read_unread, h8.read_unread,
    View.ld_unit_zero (S := S20000x128) hz2, View.ld_unit_zero (S := S1x1x20000) hz3, View.ld_unit_zero (S := S128x129) hz2,
    View.ld_unit_zero (S := S1x128) hz2, View.ld_unit_zero (S := S128x128) hz2, View.ld_unit_zero (S := S256x129) hz2]

end Cert.KernelIdeal.Cases

end
-- ==== Proof.Blocks.lean ====
/-
  What each window's block holds at a grid point, as an element of the argument arrays.
-/
module

public import proofs.«01_k».proof.Proof.Gen.KernelIdeal.Value
public import Idealize.ShloMosaic.Lib.Pointwise
public import Idealize.ShloMosaic.Lib.Claim
public import Idealize.ShloMosaic.Lib.Pipeline.ValueKit

@[expose] public section

noncomputable section

namespace Cert.KernelIdeal.Blocks

open Idealize.ShloMosaic Idealize.ShloMosaic.TcCoe
open Idealize.SL.Sem
open Cert.KernelIdeal.Gen

variable {F : FTy → Type} [FloatOps F]
variable (m : (ℓ : Loc nD τ sig) → Buf (Elt F) ℓ)

/-- Row `r` of block `t` of the 100000 rows. -/
def row (t : Fin cfg0.N) (r : Fin 20000) : Fin 100000 :=
  ⟨20000 * t.val + r.val, by have := lt_of_lt_of_eq t.isLt (show cfg0.N = 5 from N_0); omega⟩

/-- The block indices of the input windows at every point. -/
theorem idx : ∀ t : Fin cfg0.N, win0_0.index t = ![t.val, 0] ∧ win0_1.index t = ![t.val, 0, 0] ∧ win0_2.index t = ![0, 0]
    ∧ win0_3.index t = ![0, 0] ∧ win0_4.index t = ![0, 0] ∧ win0_5.index t = ![0, 0] := by
  decide +kernel

/-- The rows' block at point `t`. -/
theorem blk_x (c : Dev nD) (t : Fin cfg0.N) (r : Fin 20000) (k : Fin 128) :
    (iblk m c 0 t : Vec F S20000x128 .f32) (ix2 r k) = m ((c : Thread nD τ).loc main_arg0) (ix2 (row t r) k) := by
  blk_ext! [iblk, V, idx t, row]

/-- The segment numbers' block at point `t`. -/
theorem blk_ind (c : Dev nD) (t : Fin cfg0.N) (r : Fin 20000) :
    (iblk m c 1 t : Vec F S1x1x20000 .i32) (ix3 0 0 r) = m ((c : Thread nD τ).loc main_arg1) (ix1 (row t r)) := by
  blk_ext! [iblk, V, idx t, row]

/-- The joined weights' block is the joined weights. -/
theorem blk_w (c : Dev nD) (t : Fin cfg0.N) (k : Fin 128) (d : Fin 129) :
    (iblk m c 2 t : Vec F S128x129 .f32) (ix2 k d) = V m c main_v1 (ix2 k d) := by
  blk_ext [iblk, idx t]

/-- The feature columns of the joined weights. -/
theorem blk_wf (c : Dev nD) (t : Fin cfg0.N) (k : Fin 128) (d : Fin 129) (h : d.val < 128) :
    (iblk m c 2 t : Vec F S128x129 .f32) (ix2 k d) = m ((c : Thread nD τ).loc main_arg4) (ix2 k ⟨d.val, h⟩) := by
  rw [blk_w]
  entry_read
  pointwise
  rw [dif_pos h]

/-- The gate column of the joined weights. -/
theorem blk_wm (c : Dev nD) (t : Fin cfg0.N) (k : Fin 128) (d : Fin 129) (h : d.val = 128) :
    (iblk m c 2 t : Vec F S128x129 .f32) (ix2 k d) = m ((c : Thread nD τ).loc main_arg2) (ix2 k 0) := by
  rw [blk_w]
  entry_read
  pointwise
  rw [dif_neg (by omega)]
  have e : (⟨d.val - 128, by omega⟩ : Fin 1) = 0 := Fin.ext (by simp; omega)
  simp only [e]

/-- The features' bias. -/
theorem blk_bf (c : Dev nD) (t : Fin cfg0.N) (d : Fin 128) :
    (iblk m c 3 t : Vec F S1x128 .f32) (ix2 0 d) = m ((c : Thread nD τ).loc main_arg5) (ix1 d) := by
  blk_ext! [iblk, V, idx t, row]

/-- The output weights. -/
theorem blk_wt (c : Dev nD) (t : Fin cfg0.N) (k d : Fin 128) :
    (iblk m c 4 t : Vec F S128x128 .f32) (ix2 k d) = m ((c : Thread nD τ).loc main_arg6) (ix2 k d) := by
  blk_ext! [iblk, V, idx t, row]

/-- The output's bias. -/
theorem blk_bt (c : Dev nD) (t : Fin cfg0.N) (d : Fin 128) :
    (iblk m c 5 t : Vec F S1x128 .f32) (ix2 0 d) = m ((c : Thread nD τ).loc main_arg7) (ix1 d) := by
  blk_ext! [iblk, V, idx t, row]

end Cert.KernelIdeal.Blocks

end
-- ==== Proof.Spec.lean ====
/-
  The common value of the two programs: attention pooling over segments written with the unnormalised weights
  `exp (score)`, as functions of the argument arrays over the extended reals.
-/
module

public import Idealize.ShloMosaic.Lib.Pointwise

@[expose] public section

noncomputable section

namespace Cert.Pool

open Idealize.ShloMosaic

/-- The array of rows. -/
abbrev Rows := FVec Ideal (⟨2, ![100000, 128]⟩ : Shape) .f32
/-- The segment number of each row. -/
abbrev Segs := IVec (⟨1, ![100000]⟩ : Shape) 32
/-- A 128 × 128 weight matrix. -/
abbrev Mat := FVec Ideal (⟨2, ![128, 128]⟩ : Shape) .f32
/-- A weight column. -/
abbrev Col := FVec Ideal (⟨2, ![128, 1]⟩ : Shape) .f32
/-- A bias over 128 columns. -/
abbrev Bias := FVec Ideal (⟨1, ![128]⟩ : Shape) .f32

/-- The slope of the leaky rectifier, the number the programs' binary32 literal names. -/
def slope : EReal := Ideal.ofBits .f32 0x3C23D70A#32

/-- The leaky rectifier, as the larger of a number and its scaled copy. -/
def leaky (f : EReal) : EReal := max f (slope * f)

variable (X : Rows) (I : Segs) (Wm : Col) (Wf : Mat) (bf : Bias) (Wt : Mat) (bt : Bias)

/-- A row's gate score before its bias. -/
def score (n : Fin 100000) : EReal := ∑ k : Fin 128, X (ix2 n k) * Wm (ix2 k 0)

/-- A row's features. -/
def feat (n : Fin 100000) (d : Fin 128) : EReal := leaky (∑ k : Fin 128, X (ix2 n k) * Wf (ix2 k d) + bf (ix1 d))

/-- Row `n` belongs to segment `s`. -/
def Hit (s : Fin 256) (n : Fin 100000) : Prop := I (ix1 n) = BitVec.ofNat 32 s.val

/-- Belonging to a segment is decided by comparing words. -/
instance (s : Fin 256) (n : Fin 100000) : Decidable (Hit I s n) := inferInstanceAs (Decidable (_ = _))

/-- The sum of a segment's weighted features. -/
def numer (s : Fin 256) (d : Fin 128) : EReal :=
  ∑ n : Fin 100000, (if Hit I s n then 1 else 0) * (feat X Wf bf n d * Ideal.exp (score X Wm n))

/-- The sum of a segment's weights. -/
def denom (s : Fin 256) : EReal := ∑ n : Fin 100000, (if Hit I s n then 1 else 0) * Ideal.exp (score X Wm n)

/-- The pooled features: the quotient of the two sums where the weights' sum is positive, zero elsewhere. -/
def pooled (s : Fin 256) (d : Fin 128) : EReal :=
  if 0 < denom X I Wm s then Ideal.div (numer X I Wm Wf bf s d) (denom X I Wm s) else 0

/-- The result: the pooled features through the output layer. -/
def result (s : Fin 256) (d : Fin 128) : EReal :=
  leaky (∑ k : Fin 128, pooled X I Wm Wf bf s k * Wt (ix2 k d) + bt (ix1 d))

end Cert.Pool

end
-- ==== Proof.Payload.lean ====
/-
  What one grid point of the kernel body computes, read at an element, over the extended reals.
-/
module

public import proofs.«01_k».proof.Proof.Blocks
public import proofs.«01_k».proof.Proof.Spec

@[expose] public section

noncomputable section

namespace Cert.KernelIdeal.Payload

open Idealize.ShloMosaic Idealize.ShloMosaic.TcCoe
open Idealize.SL.Sem
open Cert.KernelIdeal.Gen Cert.KernelIdeal.Blocks Cert.Pool

variable (m : (ℓ : Loc nD τ sig) → Buf (Elt Ideal) ℓ)

/-- Two words are read as the same number exactly when they are the same word. -/
theorem sitofp_inj (a b : BitVec 32) :
    (FloatOps.sitofp (F := Ideal) FTy.bf16 a = FloatOps.sitofp (F := Ideal) FTy.bf16 b) ↔ a = b := by
  constructor
  · intro h
    have h' : (((a.toInt : ℝ) : EReal)) = ((b.toInt : ℝ) : EReal) := h
    have h2 : ((a.toInt : ℝ)) = (b.toInt : ℝ) := by exact_mod_cast h'
    exact BitVec.eq_of_toInt_eq (by exact_mod_cast h2)
  · rintro rfl; rfl

/-- What row `n` adds to segment `s` in column `d` of the carried sums: the weighted feature in the first 128 columns, the
    weight in the last. -/
def term (c : Dev nD) (s : Fin 256) (d : Fin 129) (n : Fin 100000) : EReal :=
  (if Hit (m ((c : Thread nD τ).loc main_arg1)) s n then 1 else 0) *
    (if h : d.val < 128 then
      feat (m ((c : Thread nD τ).loc main_arg0)) (m ((c : Thread nD τ).loc main_arg4)) (m ((c : Thread nD τ).loc main_arg5)) n ⟨d.val, h⟩
        * Ideal.exp (score (m ((c : Thread nD τ).loc main_arg0)) (m ((c : Thread nD τ).loc main_arg2)) n)
    else Ideal.exp (score (m ((c : Thread nD τ).loc main_arg0)) (m ((c : Thread nD τ).loc main_arg2)) n))

/-- The body's sums of a block whose elements are named: rows `x`, segment numbers `i`, joined weights `wf` and `wm`, bias `b`. -/
theorem pay_named (X : Vec Ideal S20000x128 .f32) (I : Vec Ideal S1x1x20000 .i32) (W : Vec Ideal S128x129 .f32) (B : Vec Ideal S1x128 .f32)
    (acc : Vec Ideal S256x129 .f32) (x : Fin 20000 → Fin 128 → EReal) (i : Fin 20000 → BitVec 32) (wf : Fin 128 → Fin 128 → EReal)
    (wm : Fin 128 → EReal) (b : Fin 128 → EReal) (hx : ∀ r k, X (ix2 r k) = x r k) (hi : ∀ r, I (ix3 0 0 r) = i r)
    (hwf : ∀ k (d : Fin 129) (h : d.val < 128), W (ix2 k d) = wf k ⟨d.val, h⟩) (hwm : ∀ k (d : Fin 129), d.val = 128 → W (ix2 k d) = wm k)
    (hb : ∀ d, B (ix2 0 d) = b d) (s : Fin 256) (d : Fin 129) :
    k0_pay1 (k0_pay4 (F := Ideal) X I W B acc) (ix2 s d)
      = acc (ix2 s d) + ∑ r : Fin 20000, (if i r = BitVec.ofNat 32 s.val then 1 else 0) *
        (if h : d.val < 128 then leaky (∑ k, x r k * wf k ⟨d.val, h⟩ + b ⟨d.val, h⟩) * Ideal.exp (∑ k, x r k * wm k)
          else Ideal.exp (∑ k, x r k * wm k)) := by
  pointwise [k0_pay1, k0_pay4]
  refine congrArg (acc (ix2 s d) + ·) (Finset.sum_congr rfl fun r _ => ?_)
  simp only [sitofp_inj, hi, hx, hwm _ 128 rfl, hb]
  refine congrArg₂ (· * ·) (if_congr eq_comm rfl rfl) ?_
  by_cases h : d.val < 128
  · rw [dif_pos h, dif_pos h]
    simp only [hwf _ d h]
    rfl
  · rw [dif_neg h, dif_neg h]
    have e : (⟨128 + (d.val - 128), by omega⟩ : Fin 129) = 128 := Fin.ext (by have := d.isLt; simp; omega)
    simp only [e, hwm _ 128 rfl]

/-- A grid point adds its 20000 rows' terms to what the scratch held. -/
theorem pay_block (c : Dev nD) (t : Fin cfg0.N) (acc : Vec Ideal S256x129 .f32) (s : Fin 256) (d : Fin 129) :
    k0_pay1 (k0_pay4 (F := Ideal) (iblk m c 0 t) (iblk m c 1 t) (iblk m c 2 t) (iblk m c 3 t) acc) (ix2 s d)
      = acc (ix2 s d) + ∑ r : Fin 20000, term m c s d (row t r) :=
  pay_named _ _ _ _ acc
    (fun r k => m ((c : Thread nD τ).loc main_arg0) (ix2 (row t r) k)) (fun r => m ((c : Thread nD τ).loc main_arg1) (ix1 (row t r)))
    (fun k d => m ((c : Thread nD τ).loc main_arg4) (ix2 k d)) (fun k => m ((c : Thread nD τ).loc main_arg2) (ix2 k 0))
    (fun d => m ((c : Thread nD τ).loc main_arg5) (ix1 d))
    (blk_x m c t) (blk_ind m c t) (blk_wf m c t) (blk_wm m c t) (blk_bf m c t) s d

/-- The first point's scratch starts at zero. -/
theorem pay_zero (i : S256x129.Idx) : k0_pay3 (F := Ideal) i = 0 := by
  pointwise [k0_pay3]

/-- The closing arithmetic of named weights `w` and bias `b`. -/
theorem pay_closing (acc : Vec Ideal S256x129 .f32) (W : Vec Ideal S128x128 .f32) (B : Vec Ideal S1x128 .f32) (w : Fin 128 → Fin 128 → EReal)
    (b : Fin 128 → EReal) (hw : ∀ k d, W (ix2 k d) = w k d) (hb : ∀ d, B (ix2 0 d) = b d) (s : Fin 256) (d : Fin 128) :
    k0_pay2 (F := Ideal) acc W B (ix2 s d)
      = leaky (∑ k : Fin 128, (if 0 < acc (ix2 s 128) then Ideal.div (acc (ix2 s ⟨k.val, by omega⟩)) (acc (ix2 s 128)) else 0)
          * w k d + b d) := by
  pointwise [k0_pay2]
  simp only [hw, hb]
  rfl

/-- The closing arithmetic of a segment's named sums, `N` and `D`: the quotient where `D` is positive, through the output layer. -/
theorem pay_last (c : Dev nD) (t : Fin cfg0.N) (acc : Vec Ideal S256x129 .f32) (s : Fin 256) (N : Fin 128 → EReal) (D : EReal)
    (hN : ∀ k : Fin 128, acc (ix2 s ⟨k.val, by omega⟩) = N k) (hD : acc (ix2 s 128) = D) (d : Fin 128) :
    k0_pay2 (F := Ideal) acc (iblk m c 4 t) (iblk m c 5 t) (ix2 s d)
      = leaky (∑ k : Fin 128, (if 0 < D then Ideal.div (N k) D else 0)
          * m ((c : Thread nD τ).loc main_arg6) (ix2 k d) + m ((c : Thread nD τ).loc main_arg7) (ix1 d)) :=
  (pay_closing acc _ _ (fun k d => m ((c : Thread nD τ).loc main_arg6) (ix2 k d)) (fun d => m ((c : Thread nD τ).loc main_arg7) (ix1 d))
    (blk_wt m c t) (blk_bt m c t) s d).trans (by simp only [hN, hD])

end Cert.KernelIdeal.Payload

end
-- ==== Proof.KernelValue.lean ====
/-
  What the kernel's result array holds: the carried sums over the five grid points are the sums over all the rows, and
  the last point's closing arithmetic of them is the specification's result.
-/
module

public import proofs.«01_k».proof.Proof.Cases
public import proofs.«01_k».proof.Proof.Payload

@[expose] public section

noncomputable section

namespace Cert.KernelIdeal.Final

open Idealize.ShloMosaic Idealize.ShloMosaic.TcCoe
open Idealize.SL.Sem
open Cert.KernelIdeal.Gen Cert.KernelIdeal.Value Cert.KernelIdeal.Blocks Cert.KernelIdeal.Cases Cert.KernelIdeal.Payload Cert.Pool

variable (m : (ℓ : Loc nD τ sig) → Buf (Elt Ideal) ℓ)

/-- The first point leaves its own rows' terms in the scratch. -/
theorem step_first (c : Dev nD) (t : Fin cfg0.N) (acc : Vec Ideal S256x128 .f32 × Vec Ideal S256x129 .f32) (h0 : t.val % 5 = 0)
    (h1 : ¬t.val % 5 = 4) (s : Fin 256) (d : Fin 129) :
    (stAt0 m c t.val t.isLt acc).2 (ix2 s d) = ∑ r : Fin 20000, term m c s d (row t r) := by
  rw [stAt0_A m c t acc h0 h1]
  dsimp only
  rw [sout_A, pay_block, pay_zero, zero_add]

/-- Every later point adds its rows' terms. -/
theorem step_later (c : Dev nD) (t : Fin cfg0.N) (acc : Vec Ideal S256x128 .f32 × Vec Ideal S256x129 .f32) (h0 : ¬t.val % 5 = 0)
    (s : Fin 256) (d : Fin 129) :
    (stAt0 m c t.val t.isLt acc).2 (ix2 s d) = acc.2 (ix2 s d) + ∑ r : Fin 20000, term m c s d (row t r) := by
  by_cases h1 : t.val % 5 = 4
  · rw [stAt0_C m c t acc h0 h1]
    dsimp only
    rw [sout_C, pay_block]
  · rw [stAt0_B m c t acc h0 h1]
    dsimp only
    rw [sout_B, pay_block]

/-- The last point's output is the closing arithmetic of the sums `N` and `D` it leaves in the scratch. -/
theorem step_out (c : Dev nD) (t : Fin cfg0.N) (acc : Vec Ideal S256x128 .f32 × Vec Ideal S256x129 .f32) (h0 : ¬t.val % 5 = 0)
    (h1 : t.val % 5 = 4) (s : Fin 256) (N : Fin 128 → EReal) (D : EReal)
    (hN : ∀ k : Fin 128, (stAt0 m c t.val t.isLt acc).2 (ix2 s ⟨k.val, by omega⟩) = N k)
    (hD : (stAt0 m c t.val t.isLt acc).2 (ix2 s 128) = D) (d : Fin 128) :
    (stAt0 m c t.val t.isLt acc).1 (ix2 s d)
      = leaky (∑ k : Fin 128, (if 0 < D then Ideal.div (N k) D else 0)
          * m ((c : Thread nD τ).loc main_arg6) (ix2 k d) + m ((c : Thread nD τ).loc main_arg7) (ix1 d)) := by
  rw [stAt0_C m c t acc h0 h1] at hN hD ⊢
  dsimp only at hN hD ⊢
  rw [sout_C] at hN hD
  rw [out_C]
  exact pay_last m c t _ s N D hN hD d

/-- The terms of the rows of block `t`, for any number `t`. -/
def blockSum (c : Dev nD) (s : Fin 256) (d : Fin 129) (t : ℕ) : EReal :=
  if h : t < cfg0.N then ∑ r : Fin 20000, term m c s d (row ⟨t, h⟩ r) else 0

/-- After point `j` the scratch holds the first `j + 1` blocks' terms. -/
theorem scratch_eq (c : Dev nD) (s : Fin 256) (d : Fin 129) : ∀ (j : ℕ) (h : 0 + j < cfg0.N),
    (Pipeline.accAt (fun n h => stAt0 m c n h junk0) (stAt0 m c) 0 j h).2 (ix2 s d) = ∑ t ∈ Finset.range (j + 1), blockSum m c s d t
  | 0, h => by
    rw [Pipeline.accAt_zero, Finset.sum_range_one]
    rw [show blockSum m c s d 0 = ∑ r : Fin 20000, term m c s d (row ⟨0, h⟩ r) from dif_pos h]
    exact step_first m c ⟨0, h⟩ _ (Nat.zero_mod _) (by simp) s d
  | j + 1, h => by
    have hN : 0 + (j + 1) < 5 := lt_of_lt_of_eq h (show cfg0.N = 5 from N_0)
    have h' : j + 1 < cfg0.N := by omega
    rw [Pipeline.accAt_succ, Finset.sum_range_succ, ← scratch_eq c s d j (Nat.lt_of_succ_lt h),
      show blockSum m c s d (j + 1) = ∑ r : Fin 20000, term m c s d (row ⟨j + 1, h'⟩ r) from dif_pos h']
    have e : (⟨0 + (j + 1), h⟩ : Fin cfg0.N) = ⟨j + 1, h'⟩ := Fin.ext (by simp)
    rw [← e]
    exact step_later m c ⟨0 + (j + 1), h⟩ _ (by dsimp only; omega) s d

/-- A sum over all the rows is the sum over the five blocks of the sums over their rows. -/
theorem sum_blocks (f : Fin 100000 → EReal) (g : ℕ → EReal)
    (hg : ∀ t : Fin 5, g t.val = ∑ r : Fin 20000, f ⟨20000 * t.val + r.val, by omega⟩) :
    ∑ t ∈ Finset.range 5, g t = ∑ n, f n := by
  rw [Finset.sum_range]
  simp only [hg]
  rw [← Equiv.sum_comp (finProdFinEquiv (m := 5) (n := 20000)) f, Fintype.sum_prod_type]
  refine Finset.sum_congr rfl fun t _ => Finset.sum_congr rfl fun r _ => congrArg f (Fin.ext ?_)
  show 20000 * t.val + r.val = r.val + 20000 * t.val
  omega

/-- After the last point the scratch holds the terms of all the rows. -/
theorem scratch_last (c : Dev nD) (s : Fin 256) (d : Fin 129) (h : 0 + 4 < cfg0.N) :
    (Pipeline.accAt (fun n h => stAt0 m c n h junk0) (stAt0 m c) 0 4 h).2 (ix2 s d) = ∑ n, term m c s d n := by
  rw [scratch_eq]
  refine sum_blocks (term m c s d) (blockSum m c s d) fun t => ?_
  have ht : t.val < cfg0.N := lt_of_lt_of_eq t.isLt (show 5 = cfg0.N from N_0.symm)
  exact dif_pos ht

/-- The last column of the sums is the weights' sum. -/
theorem sum_denom (c : Dev nD) (s : Fin 256) : ∑ n, term m c s 128 n
    = denom (m ((c : Thread nD τ).loc main_arg0)) (m ((c : Thread nD τ).loc main_arg1)) (m ((c : Thread nD τ).loc main_arg2)) s := by
  unfold denom term
  refine Finset.sum_congr rfl fun n _ => ?_
  rw [dif_neg (by decide)]

/-- The first 128 columns of the sums are the weighted features' sums. -/
theorem sum_numer (c : Dev nD) (s : Fin 256) (k : Fin 128) : ∑ n, term m c s ⟨k.val, by omega⟩ n
    = numer (m ((c : Thread nD τ).loc main_arg0)) (m ((c : Thread nD τ).loc main_arg1)) (m ((c : Thread nD τ).loc main_arg2))
        (m ((c : Thread nD τ).loc main_arg4)) (m ((c : Thread nD τ).loc main_arg5)) s k := by
  unfold numer term
  refine Finset.sum_congr rfl fun n _ => ?_
  rw [dif_pos k.isLt]

/-- The fold's last step, spelt as the step at the last point over what the point before left. -/
theorem fold_last (c : Dev nD) (h : 0 + 4 < cfg0.N) (h3 : 0 + 3 < cfg0.N) :
    Pipeline.accAt (fun n h => stAt0 m c n h junk0) (stAt0 m c) 0 4 h
      = stAt0 m c (0 + (3 + 1)) h (Pipeline.accAt (fun n h => stAt0 m c n h junk0) (stAt0 m c) 0 3 h3) :=
  Pipeline.accAt_succ _ _ 0 3 h

/-- The output block the last point writes, given the two accumulators it ends with: their quotient where the weights' sum is positive, through
    the output layer. -/
theorem out_last (c : Dev nD) (s : Fin 256) (h : 0 + 4 < cfg0.N) (N : Fin 128 → EReal) (D : EReal)
    (hN : ∀ k : Fin 128, (Pipeline.accAt (fun n h => stAt0 m c n h junk0) (stAt0 m c) 0 4 h).2 (ix2 s ⟨k.val, by omega⟩) = N k)
    (hD : (Pipeline.accAt (fun n h => stAt0 m c n h junk0) (stAt0 m c) 0 4 h).2 (ix2 s 128) = D) (d : Fin 128) :
    (Pipeline.accAt (fun n h => stAt0 m c n h junk0) (stAt0 m c) 0 4 h).1 (ix2 s d)
      = leaky (∑ k : Fin 128, (if 0 < D then Ideal.div (N k) D else 0)
          * m ((c : Thread nD τ).loc main_arg6) (ix2 k d) + m ((c : Thread nD τ).loc main_arg7) (ix1 d)) := by
  have h3 : 0 + 3 < cfg0.N := by omega
  rw [fold_last m c h h3] at hN hD ⊢
  exact step_out m c ⟨0 + (3 + 1), h⟩ _ (show ¬4 % 5 = 0 by decide) (show 4 % 5 = 4 by decide) s N D hN hD d

/-- The last point's output block is the specification's result of the arguments. -/
theorem out_eq (c : Dev nD) (s : Fin 256) (d : Fin 128) (h : 0 + 4 < cfg0.N) :
    (Pipeline.accAt (fun n h => stAt0 m c n h junk0) (stAt0 m c) 0 4 h).1 (ix2 s d)
    = result (m ((c : Thread nD τ).loc main_arg0)) (m ((c : Thread nD τ).loc main_arg1)) (m ((c : Thread nD τ).loc main_arg2))
        (m ((c : Thread nD τ).loc main_arg4)) (m ((c : Thread nD τ).loc main_arg5)) (m ((c : Thread nD τ).loc main_arg6))
        (m ((c : Thread nD τ).loc main_arg7)) s d := by
  have hN := fun k => (scratch_last m c s _ h).trans (sum_numer m c s k)
  have hD := (scratch_last m c s 128 h).trans (sum_denom m c s)
  rw [out_last m c s h _ _ hN hD d]
  rfl

/-- The kernel's result array, element by element, is the specification's result of the arguments. -/
theorem kernel_eq (c : Dev nD) (s : Fin 256) (d : Fin 128) : (G6 m c : Vec Ideal S256x128 .f32) (ix2 s d)
    = result (m ((c : Thread nD τ).loc main_arg0)) (m ((c : Thread nD τ).loc main_arg1)) (m ((c : Thread nD τ).loc main_arg2))
        (m ((c : Thread nD τ).loc main_arg4)) (m ((c : Thread nD τ).loc main_arg5)) (m ((c : Thread nD τ).loc main_arg6))
        (m ((c : Thread nD τ).loc main_arg7)) s d := by
  rw [G6_last]
  exact out_eq m c s d _

end Cert.KernelIdeal.Final

end
-- ==== Proof.Algebra.lean ====
/-
  The arithmetic over the extended reals that joins the two programs: the leaky rectifier in its two forms, and a
  softmax over each segment against the quotient of two unnormalised sums.
-/
module

public import proofs.«01_k».proof.Proof.Spec

@[expose] public section

noncomputable section

namespace Cert.Pool

open Idealize.ShloMosaic

/-- The slope is a real number between zero and one. -/
theorem slope_real : ∃ c : ℝ, slope = (c : EReal) ∧ 0 < c ∧ c ≤ 1 := by
  refine ⟨10737418 / 1073741824, ?_, by norm_num, by norm_num⟩
  unfold slope
  simp [Ideal.ofBits, Ideal.ieee]
  norm_num
  rw [← EReal.coe_mul]
  norm_num

/-- Choosing the scaled copy below zero and the number itself elsewhere is the leaky rectifier. -/
theorem leaky_eq (f : EReal) : (if 0 ≤ f then f else slope * f) = leaky f := by
  obtain ⟨c, hc, h0, h1⟩ := slope_real
  unfold leaky
  rw [hc]
  induction f using EReal.rec with
  | bot => rw [EReal.coe_mul_bot_of_pos h0]; simp
  | top => simp
  | coe r =>
    rw [← EReal.coe_mul]
    by_cases hr : (0 : EReal) ≤ (r : EReal)
    · rw [if_pos hr, max_eq_left]
      have := EReal.coe_nonneg.1 hr
      exact EReal.coe_le_coe_iff.2 (by nlinarith)
    · rw [if_neg hr, max_eq_right]
      have : r < 0 := by simpa using hr
      exact EReal.coe_le_coe_iff.2 (by nlinarith)

/-- A nonnegative real factor goes into a finite sum of extended reals. -/
theorem sum_mul_real {ι : Type*} (t : Finset ι) (a : ι → EReal) (r : ℝ) (hr : 0 ≤ r) :
    (∑ n ∈ t, a n) * (r : EReal) = ∑ n ∈ t, a n * (r : EReal) := by
  classical
  induction t using Finset.induction_on with
  | empty => simp
  | insert x t hx ih =>
    rw [Finset.sum_insert hx, Finset.sum_insert hx,
      EReal.right_distrib_of_nonneg_of_ne_top (EReal.coe_nonneg.2 hr) (EReal.coe_ne_top r), ih]

/-- A finite sum of real numbers, as extended reals, is the real sum. -/
theorem sum_real {ι : Type*} (t : Finset ι) (a : ι → ℝ) : ∑ n ∈ t, (a n : EReal) = ((∑ n ∈ t, a n : ℝ) : EReal) := by
  classical
  induction t using Finset.induction_on with
  | empty => simp
  | insert x t hx ih => rw [Finset.sum_insert hx, Finset.sum_insert hx, EReal.coe_add, ih]

/-- The largest of finitely many numbers over a set that is not empty, each real, is real. -/
theorem max_real {ι : Type*} [Fintype ι] (H : ι → Prop) [DecidablePred H] (g : ι → ℝ) (n₀ : ι) (h₀ : H n₀) :
    ∃ M : ℝ, (Finset.univ : Finset ι).fold max (⊥ : EReal) (fun n => if H n then (g n : EReal) else ⊥) = (M : EReal) := by
  have hlt : (Finset.univ : Finset ι).fold max (⊥ : EReal) (fun n => if H n then (g n : EReal) else ⊥) < ⊤ := by
    rw [Finset.fold_max_lt]
    refine ⟨bot_lt_top, fun n _ => ?_⟩
    by_cases h : H n
    · rw [if_pos h]; exact EReal.coe_lt_top _
    · rw [if_neg h]; exact bot_lt_top
  have hge : (g n₀ : EReal) ≤ (Finset.univ : Finset ι).fold max (⊥ : EReal) (fun n => if H n then (g n : EReal) else ⊥) := by
    rw [Finset.le_fold_max]
    exact Or.inr ⟨n₀, Finset.mem_univ _, by rw [if_pos h₀]⟩
  generalize (Finset.univ : Finset ι).fold max (⊥ : EReal) (fun n => if H n then (g n : EReal) else ⊥) = v at hlt hge
  refine ⟨v.toReal, (EReal.coe_toReal hlt.ne ?_).symm⟩
  rintro rfl
  exact absurd hge (not_le.2 (EReal.bot_lt_coe _))

/-- A softmax over the members of a segment, its scores shifted by a bias and by their largest, weights the members' features to the quotient
    of the two sums taken with the bare exponentials of the scores; a segment with no member gives zero both ways. -/
theorem softmax_pool {ι : Type*} [Fintype ι] (H : ι → Prop) [DecidablePred H] (g : ι → ℝ) (b : ℝ) (F : ι → EReal)
    (mx tot : EReal) (hmx : mx = (Finset.univ : Finset ι).fold max (⊥ : EReal) (fun n => if H n then (g n : EReal) + (b : EReal) else ⊥))
    (htot : tot = ∑ n, if H n then Ideal.exp ((g n : EReal) + (b : EReal) - mx) else 0) (numer denom : EReal)
    (hnumer : numer = ∑ n, (if H n then 1 else 0) * (F n * Ideal.exp (g n : EReal)))
    (hdenom : denom = ∑ n, (if H n then 1 else 0) * Ideal.exp (g n : EReal)) :
    (∑ n, if H n then Ideal.div (Ideal.exp ((g n : EReal) + (b : EReal) - mx)) tot * F n else 0)
      = if 0 < denom then Ideal.div numer denom else 0 := by
  by_cases hex : ∃ n₀, H n₀
  · obtain ⟨n₀, h₀⟩ := hex
    obtain ⟨M, hM⟩ := max_real H (fun n => g n + b) n₀ h₀
    have hmM : mx = (M : EReal) := by
      rw [hmx, ← hM]
      simp only [EReal.coe_add]
    have hexp : ∀ n, Ideal.exp ((g n : EReal) + (b : EReal) - mx) = ((Real.exp (g n) * Real.exp (b - M) : ℝ) : EReal) := fun n => by
      rw [hmM, ← EReal.coe_add, ← EReal.coe_sub, ← Real.exp_add]
      show ((Real.exp _ : ℝ) : EReal) = _
      congr 2
      ring
    have hZ : denom = ((∑ n, if H n then Real.exp (g n) else 0 : ℝ) : EReal) := by
      rw [hdenom, ← sum_real]
      refine Finset.sum_congr rfl fun n _ => ?_
      by_cases h : H n
      · rw [if_pos h, if_pos h, one_mul]; rfl
      · rw [if_neg h, if_neg h, zero_mul]; rfl
    have hT : tot = (((∑ n, if H n then Real.exp (g n) else 0) * Real.exp (b - M) : ℝ) : EReal) := by
      rw [htot, Finset.sum_mul, ← sum_real]
      refine Finset.sum_congr rfl fun n _ => ?_
      by_cases h : H n
      · rw [if_pos h, if_pos h, hexp]
      · rw [if_neg h, if_neg h, zero_mul]; rfl
    have hZpos : 0 < ∑ n, if H n then Real.exp (g n) else 0 := by
      refine Finset.sum_pos' (fun n _ => ?_) ⟨n₀, Finset.mem_univ _, ?_⟩
      · by_cases h : H n
        · rw [if_pos h]; exact (Real.exp_pos _).le
        · rw [if_neg h]
      · rw [if_pos h₀]; exact Real.exp_pos _
    generalize (∑ n, if H n then Real.exp (g n) else 0 : ℝ) = Z at hZ hT hZpos
    have hc := Real.exp_pos (b - M)
    rw [hZ, if_pos (EReal.coe_pos.2 hZpos), Ideal.div_coe hZpos.ne', hnumer, sum_mul_real _ _ _ (by positivity)]
    refine Finset.sum_congr rfl fun n _ => ?_
    by_cases h : H n
    · rw [if_pos h, if_pos h, one_mul, hexp, hT, Ideal.div_coe (by positivity), ← EReal.coe_mul]
      have e : F n * ((Real.exp (g n) : ℝ) : EReal) * ((1 / Z : ℝ) : EReal) = ((Real.exp (g n) * (1 / Z) : ℝ) : EReal) * F n := by
        rw [mul_assoc, ← EReal.coe_mul, mul_comm]
      refine Eq.trans ?_ e.symm
      congr 2
      field_simp
    · rw [if_neg h, if_neg h, zero_mul, zero_mul]
  · have hn : ∀ n, ¬ H n := fun n h => hex ⟨n, h⟩
    have hd : denom = 0 := by
      rw [hdenom]
      exact Finset.sum_eq_zero fun n _ => by rw [if_neg (hn n), zero_mul]
    rw [hd, if_neg (lt_irrefl _)]
    exact Finset.sum_eq_zero fun n _ => if_neg (hn n)

end Cert.Pool

end
-- ==== Proof.Scatter.lean ====
/-
  The reference's sums over segments: an add-scatter of rows into a table, read at one entry of the table.
-/
module

public import proofs.«01_k».proof.Proof.Spec
public import Idealize.ShloMosaic.Lib.Routing.OpsPair
public import Idealize.ShloMosaic.Lib.Pointwise.IndexBridge

@[expose] public section

noncomputable section

namespace Cert.Pool

open Idealize.ShloMosaic

section Lands

variable {M N B : Nat} (d : ScatterDims (⟨2, ![M, B]⟩ : Shape) ⟨2, ![N, 1]⟩ ⟨2, ![N, B]⟩)

/-- Column `y` of update row `n` lands at row `s`, column `c` of the table exactly when the row's index word, read signed, is `s` and the
    columns are the same. -/
theorem lands_iff (huw : d.updateWindowDims = [1]) (hiw : d.insertedWindowDims = [0]) (hsd : d.scatterDimsToOperandDims = [0])
    (hivd : d.indexVectorDim = 1) (idx : IVec (⟨2, ![N, 1]⟩ : Shape) 32) (n : Fin N) (y : Fin B) (s : Fin M) (c : Fin B) :
    d.resultIdx? (ix2 n y) idx = some (ix2 s c) ↔ (idx (ix2 n 0)).toInt = (s.val : Int) ∧ y = c := by
  obtain ⟨uw, iw, sd, ivd, wf⟩ := d
  simp only at huw hiw hsd hivd
  subst huw hiw hsd hivd
  rw [ix2_eq_valueIdx s c, Routing.resultIdx?_ix2]
  have h0 : ScatterDims.start ⟨[1], [0], [0], 1, wf⟩ (ix2 n y) idx 0 = (idx (ix2 n 0)).toInt := by
    unfold ScatterDims.start
    rw [dif_pos (List.mem_singleton.2 rfl)]
    refine congrArg (fun i => (idx i).toInt) (funext fun b => Fin.ext ?_)
    match b with
    | ⟨0, _⟩ => rfl
    | ⟨1, _⟩ => rfl
  have h1 : ScatterDims.start ⟨[1], [0], [0], 1, wf⟩ (ix2 n y) idx 1 = 0 := by
    unfold ScatterDims.start
    exact dif_neg (show (1 : Fin 2) ∉ [0] by decide)
  have w0 : ScatterDims.window ⟨[1], [0], [0], 1, wf⟩ (ix2 n y) 0 = 0 := rfl
  have w1 : ScatterDims.window ⟨[1], [0], [0], 1, wf⟩ (ix2 n y) 1 = y.val := rfl
  rw [h0, h1, w0, w1, Fin.ext_iff]
  omega

end Lands

/-- A word read signed is a segment's number exactly when it is the word of that number. -/
theorem toInt_eq_iff (w : BitVec 32) (s : Fin 256) : w.toInt = (s.val : Int) ↔ w = BitVec.ofNat 32 s.val := by
  have hs : (BitVec.ofNat 32 s.val).toInt = (s.val : Int) := by
    rw [BitVec.toInt_eq_toNat_of_lt (by rw [BitVec.toNat_ofNat]; omega), BitVec.toNat_ofNat]
    omega
  rw [← hs]
  exact BitVec.toInt_inj

/-- The add-scatter of the rows of `upd` into a table of zeros, by the rows' segment numbers: entry `(s, c)` is the sum of column `c` over
    the rows of segment `s`. -/
theorem scatter_read {B : Nat} (d : ScatterDims (⟨2, ![256, B]⟩ : Shape) ⟨2, ![100000, 1]⟩ ⟨2, ![100000, B]⟩)
    (huw : d.updateWindowDims = [1]) (hiw : d.insertedWindowDims = [0]) (hsd : d.scatterDimsToOperandDims = [0])
    (hivd : d.indexVectorDim = 1) (v : FVec Ideal (⟨2, ![256, B]⟩ : Shape) .f32) (idx : IVec (⟨2, ![100000, 1]⟩ : Shape) 32)
    (upd : FVec Ideal (⟨2, ![100000, B]⟩ : Shape) .f32) (I : Segs) (hidx : ∀ n, idx (ix2 n 0) = I (ix1 n)) (s : Fin 256) (c : Fin B)
    (hv : v (ix2 s c) = 0) :
    Host.scatterAdd d v idx upd (ix2 s c) = ∑ n : Fin 100000, if Hit I s n then (upd (ix2 n c) : EReal) else 0 := by
  have e : Host.scatterAdd d v idx upd = Ideal.hostScatterAdd d v idx upd := rfl
  rw [e]
  unfold Ideal.hostScatterAdd
  rw [hv, zero_add, Finset.sum_filter, sum_idx2]
  refine Finset.sum_congr rfl fun n _ => ?_
  have hl := lands_iff d huw hiw hsd hivd idx n
  by_cases h : Hit I s n
  · rw [if_pos h, Finset.sum_eq_single c]
    · exact if_pos ((hl c s c).2 ⟨by rw [hidx]; exact (toInt_eq_iff _ s).2 h, rfl⟩)
    · intro y _ hy
      exact if_neg fun q => hy ((hl y s c).1 q).2
    · intro q; exact (q (Finset.mem_univ _)).elim
  · rw [if_neg h]
    refine Finset.sum_eq_zero fun y _ => if_neg fun q => h ?_
    have := ((hl y s c).1 q).1
    rw [hidx] at this
    exact (toInt_eq_iff _ s).1 this

end Cert.Pool

end
-- ==== Proof.RefRead.lean ====
/-
  The reference's stages, each read at an index: the gate scores, the features, the segments' largest scores, the
  gathers and the sums over segments.
-/
module

public import proofs.«01_k».proof.Proof.Algebra
public import proofs.«01_k».proof.Proof.Scatter
public import proofs.«01_k».proof.Proof.Gen.ReferenceIdeal.Read
public import Idealize.ShloMosaic.Lib.Routing.Ops

@[expose] public section

noncomputable section

namespace Cert.ReferenceIdeal.Stages

open Idealize.ShloMosaic Cert.Pool Cert.ReferenceIdeal Cert.ReferenceIdeal.Gen Cert.ReferenceIdeal.Read

variable (X : Rows) (I : Segs) (Wm : Col) (bm : FVec Ideal (⟨1, ![1]⟩ : Shape) .f32) (Wf : Mat) (bf : Bias) (Wt : Mat) (bt : Bias)

/-- A row's gate: its score plus the gate's bias. -/
theorem gate_read (n : Fin 100000) : val_main_v3 (F := Ideal) X Wm bm (ix2 n 0) = score X Wm n + bm (ix1 0) := by
  pointwise [val_main_v3, val_main_v0, val_main_v2, val_main_v1, score]

/-- A row's features. -/
theorem feat_read (n : Fin 100000) (d : Fin 128) : val_main_v8 (F := Ideal) X Wf bf (ix2 n d) = feat X Wf bf n d := by
  pointwise [val_main_v8, val_main_v7, val_main_v4, val_main_v6, val_main_v5, val_main_call0_v1, val_main_call0_v4, val_main_call0_v0,
    val_main_call0_cst, val_main_call0_v3, val_main_call0_v2, val_main_cst, feat]
  exact leaky_eq _

/-- The word of minus infinity names the least extended real. -/
theorem neg_inf : Ideal.ofBits .f32 0xFF800000#32 = ⊥ := by simp [Ideal.ofBits, Ideal.ieee]

/-- A row's gate in the column of its own segment, minus infinity in every other. -/
theorem masked_read (n : Fin 100000) (s : Fin 256) : val_main_v15 (F := Ideal) X I Wm bm (ix2 n s)
    = if Hit I s n then score X Wm n + bm (ix1 0) else ⊥ := by
  pointwise [val_main_v15, val_main_v14, val_main_v12, val_main_v9, val_main_v13, val_main_v11, val_main_v10, val_main_call1_v1,
    val_main_call1_v2, val_main_call1_v0, val_main_cst_0]
  rw [gate_read]
  by_cases h : Hit I s n
  · have h' : I (ix1 n) = BitVec.ofNat 32 s.val := h
    rw [if_pos h, h']
    simp [IntOp.cmpi, Scalar.select]
  · have h' : ¬ I (ix1 n) = BitVec.ofNat 32 s.val := h
    rw [if_neg h]
    have e : IntOp.cmpi CmpIPredicate.eq (I (ix1 n)) (BitVec.ofNat 32 s.val) = 0#1 := by
      show BitVec.ofBool (I (ix1 n) == BitVec.ofNat 32 s.val) = 0#1
      rw [beq_eq_false_iff_ne.2 h']
      rfl
    rw [e]
    exact neg_inf

/-- The largest gate of a segment. -/
theorem max_read (s : Fin 256) : val_main_v16 (F := Ideal) X I Wm bm (ix1 s)
    = (Finset.univ : Finset (Fin 100000)).fold max (⊥ : EReal) (fun n => if Hit I s n then score X Wm n + bm (ix1 0) else ⊥) := by
  have h : ∀ n, val_main_v15 (F := Ideal) X I Wm bm (ix2 n s) = if Hit I s n then score X Wm n + bm (ix1 0) else ⊥ := fun n => masked_read X I Wm bm n s
  unfold val_main_v16
  generalize val_main_v15 (F := Ideal) X I Wm bm = y at h
  pointwise [val_main_cst_1]
  simp only [h, neg_inf]

/-- The index word a gather reads for a row of segment `s` is that segment's number: a number that is not negative stays as it is. -/
theorem index_read (n : Fin 100000) (s : Fin 256) (h : Hit I s n) : val_main_v23 (F := Ideal) I (ix2 n 0) = BitVec.ofNat 32 s.val := by
  have h' : I (ix1 n) = BitVec.ofNat 32 s.val := h
  pointwise [val_main_v23, val_main_v22, val_main_v21, val_main_v20, val_main_v19, val_main_v18, val_main_c, val_main_c_2]
  rw [h', Routing.wrap_of_lt _ _ (by rw [BitVec.toNat_ofNat]; omega)]

/-- The same for the second gather. -/
theorem index_read' (n : Fin 100000) (s : Fin 256) (h : Hit I s n) : val_main_v35 (F := Ideal) I (ix2 n 0) = BitVec.ofNat 32 s.val := by
  exact index_read I n s h

/-- The segment's largest gate, at a row of the segment. -/
theorem row_max_read (n : Fin 100000) (s : Fin 256) (h : Hit I s n) : val_main_v24 (F := Ideal) X I Wm bm (ix2 n 0)
    = val_main_v16 (F := Ideal) X I Wm bm (ix1 s) := by
  unfold val_main_v24
  rw [ix2_eq_valueIdx n 0, Routing.gather_row gather_S256x1_S100000x1_S100000x1_1_0_n_n_0_1_11 rfl rfl rfl rfl rfl _ _ n 0 s
    (index_read I n s h) (by norm_num), ← ix2_eq_valueIdx]
  pointwise [val_main_v17]

/-- A row's weight: the exponential of its gate less its segment's largest. -/
theorem weight_read (n : Fin 100000) (s : Fin 256) (h : Hit I s n) : val_main_v26 (F := Ideal) X I Wm bm (ix2 n 0)
    = Ideal.exp (score X Wm n + bm (ix1 0) - val_main_v16 (F := Ideal) X I Wm bm (ix1 s)) := by
  have e : val_main_v26 (F := Ideal) X I Wm bm (ix2 n 0)
      = Ideal.exp (val_main_v3 (F := Ideal) X Wm bm (ix2 n 0) - val_main_v24 (F := Ideal) X I Wm bm (ix2 n 0)) := rfl
  rw [e, gate_read, row_max_read X I Wm bm n s h]

/-- The sum of a segment's weights. -/
theorem total_read (s : Fin 256) : val_main_v29 (F := Ideal) X I Wm bm (ix2 s 0) = ∑ n : Fin 100000, if Hit I s n then
    Ideal.exp (score X Wm n + bm (ix1 0) - val_main_v16 (F := Ideal) X I Wm bm (ix1 s)) else 0 := by
  unfold val_main_v29
  refine (scatter_read _ rfl rfl rfl rfl _ _ _ I (fun n => ?_) s 0 ?_).trans (Finset.sum_congr rfl fun n _ => ?_)
  · pointwise [val_main_v28]
  · pointwise [val_main_v27, val_main_cst_3]
  · by_cases h : Hit I s n
    · rw [if_pos h, if_pos h]; exact weight_read X I Wm bm n s h
    · rw [if_neg h, if_neg h]

/-- The sum of the weights of a row's segment. -/
theorem row_total_read (n : Fin 100000) (s : Fin 256) (h : Hit I s n) : val_main_v36 (F := Ideal) X I Wm bm (ix2 n 0)
    = val_main_v29 (F := Ideal) X I Wm bm (ix2 s 0) := by
  unfold val_main_v36
  rw [ix2_eq_valueIdx n 0, Routing.gather_row gather_S256x1_S100000x1_S100000x1_1_0_n_n_0_1_11 rfl rfl rfl rfl rfl _ _ n 0 s
    (index_read' I n s h) (by norm_num), ← ix2_eq_valueIdx]

/-- A row's weighted features. -/
theorem weighted_read (n : Fin 100000) (s : Fin 256) (d : Fin 128) (h : Hit I s n) : val_main_v39 (F := Ideal) X I Wm bm Wf bf (ix2 n d)
    = Ideal.div (Ideal.exp (score X Wm n + bm (ix1 0) - val_main_v16 (F := Ideal) X I Wm bm (ix1 s)))
        (val_main_v29 (F := Ideal) X I Wm bm (ix2 s 0)) * feat X Wf bf n d := by
  have e : val_main_v39 (F := Ideal) X I Wm bm Wf bf (ix2 n d) = val_main_v38 (F := Ideal) X I Wm bm (ix2 n d)
      * val_main_v8 (F := Ideal) X Wf bf (ix2 n d) := rfl
  have e' : val_main_v38 (F := Ideal) X I Wm bm (ix2 n d) = val_main_v37 (F := Ideal) X I Wm bm (ix2 n 0) := by
    pointwise [val_main_v38]
  have e'' : val_main_v37 (F := Ideal) X I Wm bm (ix2 n 0)
      = Ideal.div (val_main_v26 (F := Ideal) X I Wm bm (ix2 n 0)) (val_main_v36 (F := Ideal) X I Wm bm (ix2 n 0)) := by
    unfold val_main_v37
    generalize val_main_v26 (F := Ideal) X I Wm bm = a
    generalize val_main_v36 (F := Ideal) X I Wm bm = b
    rfl
  rw [e, e', e'', feat_read, weight_read X I Wm bm n s h, row_total_read X I Wm bm n s h]

/-- The pooled features of a segment. -/
theorem pooled_read (s : Fin 256) (d : Fin 128) : val_main_v42 (F := Ideal) X I Wm bm Wf bf (ix2 s d)
    = ∑ n : Fin 100000, if Hit I s n then
        Ideal.div (Ideal.exp (score X Wm n + bm (ix1 0) - val_main_v16 (F := Ideal) X I Wm bm (ix1 s)))
          (val_main_v29 (F := Ideal) X I Wm bm (ix2 s 0)) * feat X Wf bf n d else 0 := by
  unfold val_main_v42
  refine (scatter_read _ rfl rfl rfl rfl _ _ _ I (fun n => ?_) s d ?_).trans (Finset.sum_congr rfl fun n _ => ?_)
  · pointwise [val_main_v41]
  · pointwise [val_main_v40, val_main_cst_6]
  · by_cases h : Hit I s n
    · rw [if_pos h, if_pos h]; exact weighted_read X I Wm bm Wf bf n s d h
    · rw [if_neg h, if_neg h]

/-- The result: the pooled features through the output layer. -/
theorem result_read (s : Fin 256) (d : Fin 128) : val_main_v47 (F := Ideal) X I Wm bm Wf bf Wt bt (ix2 s d)
    = leaky (∑ k : Fin 128, (val_main_v42 (F := Ideal) X I Wm bm Wf bf (ix2 s k) : EReal) * Wt (ix2 k d) + bt (ix1 d)) := by
  pointwise [val_main_v47, val_main_v46, val_main_v43, val_main_v45, val_main_v44, val_main_call2_v1, val_main_call2_v4, val_main_call2_v0,
    val_main_call2_cst, val_main_call2_v3, val_main_call2_v2, val_main_cst_7]
  exact leaky_eq _

end Cert.ReferenceIdeal.Stages

end
-- ==== Proof.RefValue.lean ====
/-
  The reference's result array: on finite rows, gate weights and gate bias it is the common value of the two programs.
-/
module

public import proofs.«01_k».proof.Proof.RefRead

@[expose] public section

noncomputable section

namespace Cert.ReferenceIdeal.Stages

open Idealize.ShloMosaic Cert.Pool Cert.ReferenceIdeal Cert.ReferenceIdeal.Gen Cert.ReferenceIdeal.Read

variable (X : Rows) (I : Segs) (Wm : Col) (bm : FVec Ideal (⟨1, ![1]⟩ : Shape) .f32) (Wf : Mat) (bf : Bias) (Wt : Mat) (bt : Bias)

/-- Over finite rows and finite gate weights a row's score is a real number. -/
theorem score_real (hX : ∀ i, ∃ r : ℝ, X i = (r : EReal)) (hW : ∀ i, ∃ r : ℝ, Wm i = (r : EReal)) :
    ∃ g : Fin 100000 → ℝ, ∀ n, score X Wm n = (g n : EReal) := by
  choose x hx using hX
  choose w hw using hW
  refine ⟨fun n => ∑ k : Fin 128, x (ix2 n k) * w (ix2 k 0), fun n => ?_⟩
  unfold score
  rw [← sum_real]
  refine Finset.sum_congr rfl fun k _ => ?_
  rw [hx, hw, EReal.coe_mul]

/-- The reference's pooled features are the quotient of the two unnormalised sums. -/
theorem pooled_eq (hX : ∀ i, ∃ r : ℝ, X i = (r : EReal)) (hW : ∀ i, ∃ r : ℝ, Wm i = (r : EReal)) (hb : ∀ i, ∃ r : ℝ, bm i = (r : EReal))
    (s : Fin 256) (d : Fin 128) : val_main_v42 (F := Ideal) X I Wm bm Wf bf (ix2 s d) = pooled X I Wm Wf bf s d := by
  obtain ⟨g, hg⟩ := score_real X Wm hX hW
  obtain ⟨b, hb⟩ := hb (ix1 0)
  have hm := max_read X I Wm bm s
  have ht := total_read X I Wm bm s
  rw [pooled_read]
  simp only [hg, hb] at hm ht ⊢
  refine softmax_pool (Hit I s) g b (fun n => feat X Wf bf n d) _ _ hm ht (numer X I Wm Wf bf s d) (denom X I Wm s) ?_ ?_
  · unfold numer
    simp only [hg]
  · unfold denom
    simp only [hg]

/-- The reference's result is the common value. -/
theorem reference_eq (hX : ∀ i, ∃ r : ℝ, X i = (r : EReal)) (hW : ∀ i, ∃ r : ℝ, Wm i = (r : EReal)) (hb : ∀ i, ∃ r : ℝ, bm i = (r : EReal))
    (s : Fin 256) (d : Fin 128) : val_main_v47 (F := Ideal) X I Wm bm Wf bf Wt bt (ix2 s d) = result X I Wm Wf bf Wt bt s d := by
  rw [result_read]
  unfold result
  refine congrArg (fun t => leaky (t + bt (ix1 d))) (Finset.sum_congr rfl fun k _ => ?_)
  rw [pooled_eq X I Wm bm Wf bf hX hW hb s k]

end Cert.ReferenceIdeal.Stages

end
-- ==== Proof.Pre.lean ====
/-
  The precondition, read as a statement about every element: the rows, the gate weights and the gate bias are finite.
-/
module

public import proofs.«01_k».proof.Pre_inputs_ok
public import proofs.«01_k».proof.Proof.Spec
public import Idealize.ShloMosaic.Lib.ReduceAll
public import Idealize.ShloMosaic.Lib.StableHlo.Predicate

@[expose] public section

noncomputable section

namespace Cert.Pool

open Idealize.ShloMosaic

/-- The word of plus infinity names the greatest extended real. -/
theorem pos_inf : Ideal.ofBits .f32 0x7F800000#32 = ⊤ := by simp [Ideal.ofBits, Ideal.ieee]

/-- A number whose absolute value is below infinity is real. -/
theorem real_of_abs_lt (x : EReal) (h : FloatOps.cmpf (F := Ideal) (φ := .f32) .olt (max x (-x)) (Ideal.ofBits .f32 0x7F800000#32) = 1#1) :
    ∃ r : ℝ, x = (r : EReal) := by
  rw [pos_inf] at h
  have h' : max x (-x) < ⊤ := by
    have := (Idealize.ShloMosaic.StableHlo.Predicate.ofBool_eq_one_iff _).1 h
    simpa using this
  induction x using EReal.rec with
  | bot => simp at h'
  | top => simp at h'
  | coe r => exact ⟨r, rfl⟩

/-- A scalar array has one index. -/
instance : Subsingleton (Cert.Pre_inputs_ok.S_.Idx) := ⟨fun a b => funext fun i => i.elim0⟩

variable [Cert.Pre_inputs_ok.Facts]

/-- The precondition's bit is set only where every row, gate weight and gate bias element is finite. -/
theorem finite_of_pre (x0 : Rows) (x1 : Segs) (x2 : Col) (x3 : FVec Ideal (⟨1, ![1]⟩ : Shape) .f32) (x4 : Mat) (x5 : Bias) (x6 : Mat)
    (x7 : Bias) (j : Cert.Pre_inputs_ok.S_.Idx) (h : Cert.Pre_inputs_ok.fn (F := Ideal) x0 x1 x2 x3 x4 x5 x6 x7 j = 1#1) :
    (∀ i, ∃ r : ℝ, x0 i = (r : EReal)) ∧ (∀ i, ∃ r : ℝ, x2 i = (r : EReal)) ∧ (∀ i, ∃ r : ℝ, x3 i = (r : EReal)) := by
  obtain ⟨h12, h3⟩ := IntOp.andi_eq_one.1 h
  obtain ⟨h1, h2⟩ := IntOp.andi_eq_one.1 h12
  exact ⟨fun i => real_of_abs_lt _ (Host.reduce_andi_all _ _ _ _ _ h1 i), fun i => real_of_abs_lt _ (Host.reduce_andi_all _ _ _ _ _ h2 i),
    fun i => real_of_abs_lt _ (Host.reduce_andi_all _ _ _ _ _ h3 i)⟩

end Cert.Pool

end
-- ==== Proof.lean ====
/-
  The proof of the certificate's claim: the frames, the kernel's rewriting and the equation of the two result arrays.
-/
module

public import proofs.«01_k».proof.Defs
public import proofs.«01_k».proof.Proof.Gen.Kernel.Frame
public import proofs.«01_k».proof.Proof.Gen.KernelIdeal.Value
public import proofs.«01_k».proof.Proof.Gen.Pre_inputs_ok
public import proofs.«01_k».proof.Proof.Gen.ReferenceIdeal.Run
public import proofs.«01_k».proof.Proof.Gen.ReferenceIdeal.Read
public import proofs.«01_k».proof.Proof.KernelValue
public import proofs.«01_k».proof.Proof.RefValue
public import proofs.«01_k».proof.Proof.Pre
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments unchanged and ends with every counter at zero. -/
theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from the memories of the precondition. -/
theorem reference_frame_pre : quiescent_ReferenceIdeal_pre_inputs_ok := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On equal arguments, the rows, gate weights and gate bias finite, the kernel and the reference end with the same result array. -/
theorem value_claim : algebraic_KernelIdeal_ReferenceIdeal_pre_inputs_ok := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v47_eq]
  obtain ⟨h0, h1, h2, h3, h4, h5, h6, h7⟩ := hagree c
  rw [h0, h1, h2, h3, h4, h5, h6, h7]
  obtain ⟨hX, hW, hb⟩ := Cert.Pool.finite_of_pre _ _ _ _ _ _ _ _ ix0 (congrFun (hpre c) ix0)
  refine funext fun i => ?_
  rw [eq_ix2 i]
  exact (Cert.ReferenceIdeal.Stages.reference_eq _ _ _ _ _ _ _ _ hX hW hb (i 0) (i 1)).trans
    (Cert.KernelIdeal.Final.kernel_eq m c (i 0) (i 1)).symm

/-- Every claim of the certificate. -/
theorem claim : Cert.Claim := ⟨Cert.Kernel.Gen.facts, Cert.KernelIdeal.Gen.facts, Cert.ReferenceIdeal.Gen.facts, Cert.Pre_inputs_ok.Gen.facts,
  fun m ρ _ => Cert.Kernel.Gen.frame m ρ, fun m ρ _ => Cert.KernelIdeal.Gen.frame m ρ, fun m ρ _ => Cert.KernelIdeal.Gen.frame m ρ, reference_frame,
  reference_frame_pre, (trivial : preserves_Kernel_KernelIdeal), value_claim⟩

end Cert.Proof

end
